-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_box_below_inf [hPre_box_below_inf : Cert.Pre_box_below_inf.Facts] (m : (ℓ : Loc Cert.KernelIdeal.nD Cert.KernelIdeal.τ Cert.KernelIdeal.sig) → Buf (Elt Ideal) ℓ) : Prop :=
  ∀ c : Dev Cert.KernelIdeal.nD,
    (Cert.Pre_box_below_inf.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_box_below_inf [hPre_box_below_inf : Cert.Pre_box_below_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_box_below_inf.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_box_below_inf [hKernelIdeal : Cert.KernelIdeal.Facts] [hPre_box_below_inf : Cert.Pre_box_below_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_box_below_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_box_below_inf [hReferenceIdeal : Cert.ReferenceIdeal.Facts] [hPre_box_below_inf : Cert.Pre_box_below_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_box_below_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "deg" .f32 0x41E52EE1#32 ((90 * Real.pi⁻¹ : ℝ) : EReal)

def algebraic_KernelIdeal_ReferenceIdeal_pre_box_below_inf [hKernelIdeal : Cert.KernelIdeal.Facts] [hReferenceIdeal : Cert.ReferenceIdeal.Facts] [hPre_box_below_inf : Cert.Pre_box_below_inf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_box_below_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_box_below_inf : Cert.Pre_box_below_inf.Facts),
    quiescent_Kernel (hKernel := hKernel)
    ∧ quiescent_KernelIdeal (hKernelIdeal := hKernelIdeal)
    ∧ quiescent_KernelIdeal_pre_box_below_inf (hKernelIdeal := hKernelIdeal) (hPre_box_below_inf := hPre_box_below_inf)
    ∧ quiescent_ReferenceIdeal (hReferenceIdeal := hReferenceIdeal)
    ∧ quiescent_ReferenceIdeal_pre_box_below_inf (hReferenceIdeal := hReferenceIdeal) (hPre_box_below_inf := hPre_box_below_inf)
    ∧ preserves_Kernel_KernelIdeal
    ∧ algebraic_KernelIdeal_ReferenceIdeal_pre_box_below_inf (hKernelIdeal := hKernelIdeal) (hReferenceIdeal := hReferenceIdeal) (hPre_box_below_inf := hPre_box_below_inf)
-- ==== Pre_box_below_inf.lean ====
abbrev S16x261x64x64 : Shape := ⟨4, ![16, 261, 64, 64]⟩
abbrev S16x3x87x64x64 : Shape := ⟨5, ![16, 3, 87, 64, 64]⟩
abbrev S16x3x6x64x64 : Shape := ⟨5, ![16, 3, 6, 64, 64]⟩
abbrev S_ : Shape := ⟨0, ![]⟩

class Facts : Prop where
  shapeCasts_S16x261x64x64_S16x3x87x64x64 : S16x261x64x64.ShapeCasts S16x3x87x64x64
  slices_S16x3x87x64x64_S16x3x6x64x64_0_0_0_0_0 : S16x3x87x64x64.Slices ![0, 0, 0, 0, 0] S16x3x6x64x64
  bcast_S_S16x3x6x64x64 : S_.BroadcastsInDim S16x3x6x64x64 (![] : Fin 0 → Fin S16x3x6x64x64.rank)

variable [Facts]

def fn {F : FTy → Type} [FloatOps F] (main_arg0 : FVec F S16x261x64x64 .f32) : IVec S16x3x6x64x64 1 :=
  let main_v0 : FVec F S16x3x87x64x64 .f32 := shapeCast S16x3x87x64x64 main_arg0 shapeCasts_S16x261x64x64_S16x3x87x64x64
  let main_v1 : FVec F S16x3x6x64x64 .f32 := (extractStridedSlice S16x3x6x64x64 ![0, 0, 0, 0, 0] · slices_S16x3x87x64x64_S16x3x6x64x64_0_0_0_0_0) main_v0
  let main_cst : FVec F S_ .f32 := constant S_ .f32 0x7F800000#32
  let main_v2 : FVec F S16x3x6x64x64 .f32 := broadcastInDim S16x3x6x64x64 ![] bcast_S_S16x3x6x64x64 main_cst
  let main_v3 : IVec S16x3x6x64x64 1 := cmpf .olt main_v1 main_v2
  main_v3
-- ==== Kernel.lean ====
abbrev S16x261x64x64 : Shape := ⟨4, ![16, 261, 64, 64]⟩
abbrev S16x64x64x261 : Shape := ⟨4, ![16, 64, 64, 261]⟩
abbrev S86x16x12288 : Shape := ⟨3, ![86, 16, 12288]⟩
abbrev S16x8x64x261 : Shape := ⟨4, ![16, 8, 64, 261]⟩
abbrev S86x16x512 : Shape := ⟨3, ![86, 16, 512]⟩
abbrev S16x512x261 : Shape := ⟨3, ![16, 512, 261]⟩
abbrev S16x512x192 : Shape := ⟨3, ![16, 512, 192]⟩
abbrev S88x261 : Shape := ⟨2, ![88, 261]⟩
abbrev S8x192 : Shape := ⟨2, ![8, 192]⟩
abbrev S88x16x512 : Shape := ⟨3, ![88, 16, 512]⟩
abbrev S8x16x512 : Shape := ⟨3, ![8, 16, 512]⟩
abbrev S16x512 : Shape := ⟨2, ![16, 512]⟩
abbrev S6x16x512 : Shape := ⟨3, ![6, 16, 512]⟩
abbrev S1x16x512 : Shape := ⟨3, ![1, 16, 512]⟩
abbrev S5x16x512 : Shape := ⟨3, ![5, 16, 512]⟩
abbrev S81x16x512 : Shape := ⟨3, ![81, 16, 512]⟩
abbrev S16x12288x86 : Shape := ⟨3, ![16, 12288, 86]⟩

abbrev nBuf : Space → Nat
  | .hbm => 4
  | .vmem => 4
  | .smem => 0
  | _ => 0

abbrev bufTy : (tb : Table) → Fin (tcTables nBuf tb) → BufTy
  | .hbm, ⟨0, _⟩ => ⟨S16x261x64x64, .f32⟩
  | .hbm, ⟨1, _⟩ => ⟨S16x64x64x261, .f32⟩
  | .hbm, ⟨2, _⟩ => ⟨S86x16x12288, .f32⟩
  | .hbm, ⟨3, _⟩ => ⟨S16x12288x86, .f32⟩
  | .local _ .vmem, ⟨0, _⟩ => ⟨S16x8x64x261, .f32⟩
  | .local _ .vmem, ⟨1, _⟩ => ⟨S16x8x64x261, .f32⟩
  | .local _ .vmem, ⟨2, _⟩ => ⟨S86x16x512, .f32⟩
  | .local _ .vmem, ⟨3, _⟩ => ⟨S86x16x512, .f32⟩
  | _, _ => ⟨S16x261x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![24], ![false]⟩

def cc0_transform_0 (i : grid0.Coords) : Fin 4 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  let c0_i32_6 : BitVec 32 := 0#32
  ![c0_i32_3.toNat, v9.toNat, c0_i32_4.toNat, c0_i32_5.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S16x8x64x261 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S86x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== KernelIdeal.lean ====
variable {F : FTy → Type} [FloatOps F] [Named F]
def κ : String → Option EReal := fun
  | "deg" => some ((90 * Real.pi⁻¹ : ℝ) : EReal)
  | _ => none
-- ==== ReferenceIdeal.lean ====
abbrev S16x261x64x64 : Shape := ⟨4, ![16, 261, 64, 64]⟩
abbrev S3x3 : Shape := ⟨2, ![3, 3]⟩
abbrev S16x3x87x64x64 : Shape := ⟨5, ![16, 3, 87, 64, 64]⟩
abbrev S16x3x64x64x87 : Shape := ⟨5, ![16, 3, 64, 64, 87]⟩
abbrev S16x3x64x64x1 : Shape := ⟨5, ![16, 3, 64, 64, 1]⟩
abbrev S16x3x64x64 : Shape := ⟨4, ![16, 3, 64, 64]⟩
abbrev S_ : Shape := ⟨0, ![]⟩
abbrev S16x3x64x64x80 : Shape := ⟨5, ![16, 3, 64, 64, 80]⟩
abbrev S64 : Shape := ⟨1, ![64]⟩
abbrev S1x64 : Shape := ⟨2, ![1, 64]⟩
abbrev S1x1x1x64 : Shape := ⟨4, ![1, 1, 1, 64]⟩
abbrev S64x1x1x64 : Shape := ⟨4, ![64, 1, 1, 64]⟩
abbrev S64x64 : Shape := ⟨2, ![64, 64]⟩
abbrev S1x1x64x64 : Shape := ⟨4, ![1, 1, 64, 64]⟩
abbrev S3x1 : Shape := ⟨2, ![3, 1]⟩
abbrev S1x3x1x1 : Shape := ⟨4, ![1, 3, 1, 1]⟩
abbrev S16x3x64x64x5 : Shape := ⟨5, ![16, 3, 64, 64, 5]⟩
abbrev S16x3x64x64x4 : Shape := ⟨5, ![16, 3, 64, 64, 4]⟩
abbrev S16x12288x4 : Shape := ⟨3, ![16, 12288, 4]⟩
abbrev S16x12288x1 : Shape := ⟨3, ![16, 12288, 1]⟩
abbrev S16x12288x80 : Shape := ⟨3, ![16, 12288, 80]⟩
abbrev S16x12288x86 : Shape := ⟨3, ![16, 12288, 86]⟩

abbrev nBuf : Space → Nat
  | .hbm => 108
  | .vmem => 0
  | .smem => 0
  | _ => 0

abbrev bufTy : (tb : Table) → Fin (tcTables nBuf tb) → BufTy
  | .hbm, ⟨0, _⟩ => ⟨S16x261x64x64, .f32⟩
  | .hbm, ⟨1, _⟩ => ⟨S3x3, .f32⟩
  | .hbm, ⟨2, _⟩ => ⟨S16x3x87x64x64, .f32⟩
  | .hbm, ⟨3, _⟩ => ⟨S16x3x64x64x87, .f32⟩
  | .hbm, ⟨4, _⟩ => ⟨S16x3x64x64x1, .f32⟩
  | .hbm, ⟨5, _⟩ => ⟨S16x3x64x64, .f32⟩
  | .hbm, ⟨6, _⟩ => ⟨S16x3x64x64, .f32⟩
  | .hbm, ⟨7, _⟩ => ⟨S16x3x64x64, .f32⟩
  | .hbm, ⟨8, _⟩ => ⟨S_, .f32⟩
  | .hbm, ⟨9, _⟩ => ⟨S16x3x64x64, .f32⟩
  | .hbm, ⟨10, _⟩ => ⟨S16x3x64x64, .f32⟩
  | .hbm, ⟨11, _⟩ => ⟨S_, .f32⟩
  | .hbm, ⟨12, _⟩ => ⟨S16x3x64x64, .f32⟩
  | .hbm, ⟨13, _⟩ => ⟨S16x3x64x64, .f32⟩
  | .hbm, ⟨14, _⟩ => ⟨S16x3x64x64x1, .f32⟩
  | .hbm, ⟨15, _⟩ => ⟨S16x3x64x64, .f32⟩
  | .hbm, ⟨16, _⟩ => ⟨S16x3x64x64, .f32⟩
  | .hbm, ⟨17, _⟩ => ⟨S16x3x64x64, .f32⟩
  | .hbm, ⟨18, _⟩ => ⟨S_, .f32⟩
  | .hbm, ⟨19, _⟩ => ⟨S16x3x64x64, .f32⟩
  | .hbm, ⟨20, _⟩ => ⟨S16x3x64x64, .f32⟩
  | .hbm, ⟨21, _⟩ => ⟨S_, .f32⟩
  | .hbm, ⟨22, _⟩ => ⟨S16x3x64x64, .f32⟩
  | .hbm, ⟨23, _⟩ => ⟨S16x3x64x64, .f32⟩
  | .hbm, ⟨24, _⟩ => ⟨S16x3x64x64x1, .f32⟩
  | .hbm, ⟨25, _⟩ => ⟨S16x3x64x64, .f32⟩
  | .hbm, ⟨26, _⟩ => ⟨S16x3x64x64x1, .f32⟩
  | .hbm, ⟨27, _⟩ => ⟨S16x3x64x64, .f32⟩
  | .hbm, ⟨28, _⟩ => ⟨S16x3x64x64x1, .f32⟩
  | .hbm, ⟨29, _⟩ => ⟨S16x3x64x64, .f32⟩
  | .hbm, ⟨30, _⟩ => ⟨S16x3x64x64, .f32⟩
  | .hbm, ⟨31, _⟩ => ⟨S16x3x64x64x1, .f32⟩
  | .hbm, ⟨32, _⟩ => ⟨S16x3x64x64, .f32⟩
  | .hbm, ⟨33, _⟩ => ⟨S16x3x64x64, .f32⟩
  | .hbm, ⟨34, _⟩ => ⟨S16x3x64x64x1, .f32⟩
  | .hbm, ⟨35, _⟩ => ⟨S16x3x64x64, .f32⟩
  | .hbm, ⟨36, _⟩ => ⟨S16x3x64x64, .f32⟩
  | .hbm, ⟨37, _⟩ => ⟨S16x3x64x64, .f32⟩
  | .hbm, ⟨38, _⟩ => ⟨S_, .f32⟩
  | .hbm, ⟨39, _⟩ => ⟨S16x3x64x64, .f32⟩
  | .hbm, ⟨40, _⟩ => ⟨S16x3x64x64, .f32⟩
  | .hbm, ⟨41, _⟩ => ⟨S_, .f32⟩
  | .hbm, ⟨42, _⟩ => ⟨S16x3x64x64, .f32⟩
  | .hbm, ⟨43, _⟩ => ⟨S16x3x64x64, .f32⟩
  | .hbm, ⟨44, _⟩ => ⟨S16x3x64x64x80, .f32⟩
  | .hbm, ⟨45, _⟩ => ⟨S16x3x64x64x80, .f32⟩
  | .hbm, ⟨46, _⟩ => ⟨S16x3x64x64x80, .f32⟩
  | .hbm, ⟨47, _⟩ => ⟨S_, .f32⟩
  | .hbm, ⟨48, _⟩ => ⟨S16x3x64x64x80, .f32⟩
  | .hbm, ⟨49, _⟩ => ⟨S16x3x64x64x80, .f32⟩
  | .hbm, ⟨50, _⟩ => ⟨S_, .f32⟩
  | .hbm, ⟨51, _⟩ => ⟨S16x3x64x64x80, .f32⟩
  | .hbm, ⟨52, _⟩ => ⟨S16x3x64x64x80, .f32⟩
  | .hbm, ⟨53, _⟩ => ⟨S64, .f32⟩
  | .hbm, ⟨54, _⟩ => ⟨S1x64, .f32⟩
  | .hbm, ⟨55, _⟩ => ⟨S1x1x1x64, .f32⟩
  | .hbm, ⟨56, _⟩ => ⟨S64x1x1x64, .f32⟩
  | .hbm, ⟨57, _⟩ => ⟨S64x64, .f32⟩
  | .hbm, ⟨58, _⟩ => ⟨S1x1x64x64, .f32⟩
  | .hbm, ⟨59, _⟩ => ⟨S64, .f32⟩
  | .hbm, ⟨60, _⟩ => ⟨S1x64, .f32⟩
  | .hbm, ⟨61, _⟩ => ⟨S1x1x1x64, .f32⟩
  | .hbm, ⟨62, _⟩ => ⟨S64x1x1x64, .f32⟩
  | .hbm, ⟨63, _⟩ => ⟨S64x64, .f32⟩
  | .hbm, ⟨64, _⟩ => ⟨S64x64, .f32⟩
  | .hbm, ⟨65, _⟩ => ⟨S1x1x64x64, .f32⟩
  | .hbm, ⟨66, _⟩ => ⟨S3x1, .f32⟩
  | .hbm, ⟨67, _⟩ => ⟨S1x3x1x1, .f32⟩
  | .hbm, ⟨68, _⟩ => ⟨S3x1, .f32⟩
  | .hbm, ⟨69, _⟩ => ⟨S1x3x1x1, .f32⟩
  | .hbm, ⟨70, _⟩ => ⟨S16x3x64x64, .f32⟩
  | .hbm, ⟨71, _⟩ => ⟨S16x3x64x64, .f32⟩
  | .hbm, ⟨72, _⟩ => ⟨S16x3x64x64, .f32⟩
  | .hbm, ⟨73, _⟩ => ⟨S16x3x64x64, .f32⟩
  | .hbm, ⟨74, _⟩ => ⟨S16x3x64x64, .f32⟩
  | .hbm, ⟨75, _⟩ => ⟨S16x3x64x64, .f32⟩
  | .hbm, ⟨76, _⟩ => ⟨S16x3x64x64, .f32⟩
  | .hbm, ⟨77, _⟩ => ⟨S16x3x64x64, .f32⟩
  | .hbm, ⟨78, _⟩ => ⟨S16x3x64x64, .f32⟩
  | .hbm, ⟨79, _⟩ => ⟨S16x3x64x64, .f32⟩
  | .hbm, ⟨80, _⟩ => ⟨S16x3x64x64, .f32⟩
  | .hbm, ⟨81, _⟩ => ⟨S_, .f32⟩
  | .hbm, ⟨82, _⟩ => ⟨S_, .f32⟩
  | .hbm, ⟨83, _⟩ => ⟨S16x3x64x64, .f32⟩
  | .hbm, ⟨84, _⟩ => ⟨S16x3x64x64, .f32⟩
  | .hbm, ⟨85, _⟩ => ⟨S_, .f32⟩
  | .hbm, ⟨86, _⟩ => ⟨S16x3x64x64, .f32⟩
  | .hbm, ⟨87, _⟩ => ⟨S16x3x64x64, .f32⟩
  | .hbm, ⟨88, _⟩ => ⟨S_, .f32⟩
  | .hbm, ⟨89, _⟩ => ⟨S16x3x64x64, .f32⟩
  | .hbm, ⟨90, _⟩ => ⟨S16x3x64x64, .f32⟩
  | .hbm, ⟨91, _⟩ => ⟨S16x3x64x64x1, .f32⟩
  | .hbm, ⟨92, _⟩ => ⟨S16x3x64x64x1, .f32⟩
  | .hbm, ⟨93, _⟩ => ⟨S16x3x64x64x1, .f32⟩
  | .hbm, ⟨94, _⟩ => ⟨S16x3x64x64x1, .f32⟩
  | .hbm, ⟨95, _⟩ => ⟨S16x3x64x64x1, .f32⟩
  | .hbm, ⟨96, _⟩ => ⟨S16x3x64x64x5, .f32⟩
  | .hbm, ⟨97, _⟩ => ⟨S16x3x64x64x4, .f32⟩
  | .hbm, ⟨98, _⟩ => ⟨S16x12288x4, .f32⟩
  | .hbm, ⟨99, _⟩ => ⟨S_, .f32⟩
  | .hbm, ⟨100, _⟩ => ⟨S16x12288x4, .f32⟩
  | .hbm, ⟨101, _⟩ => ⟨S16x12288x4, .f32⟩
  | .hbm, ⟨102, _⟩ => ⟨S16x3x64x64x1, .f32⟩
  | .hbm, ⟨103, _⟩ => ⟨S16x3x64x64, .f32⟩
  | .hbm, ⟨104, _⟩ => ⟨S16x12288x1, .f32⟩
  | .hbm, ⟨105, _⟩ => ⟨S16x12288x1, .f32⟩
  | .hbm, ⟨106, _⟩ => ⟨S16x12288x80, .f32⟩
  | .hbm, ⟨107, _⟩ => ⟨S16x12288x86, .f32⟩
  | _, _ => ⟨S16x261x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩
abbrev main_cst_3 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_4 : Ref sig .tc := ⟨.hbm, 38, rfl⟩
abbrev main_v32 : Ref sig .tc := ⟨.hbm, 39, rfl⟩
abbrev main_v33 : Ref sig .tc := ⟨.hbm, 40, rfl⟩
abbrev main_cst_5 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_6 : Ref sig .tc := ⟨.hbm, 47, rfl⟩
abbrev main_v39 : Ref sig .tc := ⟨.hbm, 48, rfl⟩
abbrev main_v40 : Ref sig .tc := ⟨.hbm, 49, rfl⟩
abbrev main_cst_7 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_cst_8 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_cst_9 : Ref sig .tc := ⟨.hbm, 85, rfl⟩
abbrev main_v74 : Ref sig .tc := ⟨.hbm, 86, rfl⟩
abbrev main_v75 : Ref sig .tc := ⟨.hbm, 87, rfl⟩
abbrev main_cst_10 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_cst_11 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩

abbrev nD : Nat := 1
abbrev τ : Topo := Topo.v7x

variable {F : FTy → Type} [FloatOps F]
-- ==== Proof.Boxes.lean ====
/-
  The precondition read at an index: every element of the first six channels of an anchor is below +inf.
-/
module

public import proofs.«01_k».proof.Pre_box_below_inf
public import Idealize.ShloMosaic.Lib.Pointwise

@[expose] public section

noncomputable section

open Idealize.ShloMosaic

namespace Cert.Decode

/-- The shape relations that the precondition states. -/
theorem boxFacts : Cert.Pre_box_below_inf.Facts where
  shapeCasts_S16x261x64x64_S16x3x87x64x64 := by decide
  slices_S16x3x87x64x64_S16x3x6x64x64_0_0_0_0_0 := by decide
  bcast_S_S16x3x6x64x64 := by decide

/-- The literal +inf. -/
theorem bits_inf : Ideal.ofBits .f32 0x7F800000#32 = (⊤ : EReal) := by
  simp [Ideal.ofBits, Ideal.ieee]

/-- Where the precondition is all ones, those elements are not +inf. -/
theorem below_of_ones [Cert.Pre_box_below_inf.Facts] (X : FVec Ideal Cert.Pre_box_below_inf.S16x261x64x64 .f32)
    (h : Cert.Pre_box_below_inf.fn (F := Ideal) X = fun _ => 1#1)
    (b : Fin 16) (a : Fin 3) (k : Fin 87) (y x : Fin 64) (hk : k.val < 6) :
    X (ix4 b ⟨a.val * 87 + k.val, by omega⟩ y x) ≠ ⊤ := by
  have e := congrFun h (ix5 b a ⟨k.val, hk⟩ y x)
  have r : Cert.Pre_box_below_inf.fn (F := Ideal) X (ix5 b a ⟨k.val, hk⟩ y x)
      = BitVec.ofBool (decide (X (ix4 b ⟨a.val * 87 + k.val, by omega⟩ y x) < Ideal.ofBits .f32 0x7F800000#32)) := by
    pointwise [Cert.Pre_box_below_inf.fn]
  intro t
  rw [r, bits_inf, t] at e
  simp at e

end Cert.Decode
-- ==== Proof.RefTerm.lean ====
/-
  The reference's result as a composition of named arrays, each read at an index over the extended reals.
  `decoded` is the whole result; `refTerm_eq` says that it is the term that the reference's run ends with.
-/
module

public import proofs.«01_k».proof.Proof.Gen.ReferenceIdeal.Run
public import Idealize.ShloMosaic.Lib.Pointwise

@[expose] public section

noncomputable section

open Idealize.ShloMosaic Idealize.ShloMosaic.TcCoe Idealize.SL.Sem

namespace Cert.Decode.Ref
open Cert.ReferenceIdeal Cert.ReferenceIdeal.Gen

/-- An array of one value per image, anchor and cell. -/
abbrev Cells := FVec Ideal S16x3x64x64 .f32

/-- The argument with the channels of each anchor moved last. -/
def moved (X : FVec Ideal S16x261x64x64 .f32) : FVec Ideal S16x3x64x64x87 .f32 :=
  transpose S16x3x64x64x87 [0, 1, 3, 4, 2] (shapeCast _ X shapeCasts_S16x261x64x64_S16x3x87x64x64) transposes_S16x3x87x64x64_S16x3x64x64x87_0_1_3_4_2

theorem moved_apply (X : FVec Ideal S16x261x64x64 .f32) (b : Fin 16) (a : Fin 3) (y x : Fin 64) (k : Fin 87) :
    moved X (ix5 b a y x k) = X (ix4 b ⟨a.val * 87 + k.val, by omega⟩ y x) := by
  pointwise [moved]

/-- One channel of every anchor. -/
def chan (k : Nat) (h : S16x3x64x64x87.Slices ![0, 0, 0, 0, k] S16x3x64x64x1) (X : FVec Ideal S16x261x64x64 .f32) : Cells :=
  shapeCast _ (extractStridedSlice S16x3x64x64x1 ![0, 0, 0, 0, k] (moved X) h) shapeCasts_S16x3x64x64x1_S16x3x64x64

/-- The logistic function spelt with a negation, an exponential, a sum and a quotient. -/
def sigm (v : Cells) : Cells :=
  Host.divf (broadcastInDim S16x3x64x64 ![] bcast_S_S16x3x64x64 (constant S_ .f32 0x3F800000#32))
    (addf (broadcastInDim S16x3x64x64 ![] bcast_S_S16x3x64x64 (constant S_ .f32 0x3F800000#32)) (Host.exp (Host.negf v)))

theorem sigm_apply (v : Cells) (j : S16x3x64x64.Idx) : sigm v j = Ideal.logistic (v j) := by
  pointwise [sigm]
  rfl

/-- The square whose row is 0, 1, …, 63 in every line. -/
def ramp : FVec Ideal S64x64 .f32 :=
  shapeCast _ (broadcastInDim S64x1x1x64 ![0, 1, 2, 3] bcast_S1x1x1x64_S64x1x1x64_0_1_2_3 (shapeCast _ (broadcastInDim S1x64 ![1] bcast_S64_S1x64_1 (sitofp .f32 (iotaInDim S64 32 0))) shapeCasts_S1x64_S1x1x1x64)) shapeCasts_S64x1x1x64_S64x64

theorem ramp_apply (y x : Fin 64) : ramp (ix2 y x) = FloatOps.sitofp (F := Ideal) .f32 (BitVec.ofNat 32 x.val) := by
  pointwise [ramp]

/-- The column of each cell. -/
def column : Cells :=
  broadcastInDim S16x3x64x64 ![0, 1, 2, 3] bcast_S1x1x64x64_S16x3x64x64_0_1_2_3 (shapeCast _ ramp shapeCasts_S64x64_S1x1x64x64)

theorem column_apply (b : Fin 16) (a : Fin 3) (y x : Fin 64) :
    column (ix4 b a y x) = FloatOps.sitofp (F := Ideal) .f32 (BitVec.ofNat 32 x.val) := by
  pointwise [column, ramp_apply]

/-- The row of each cell. -/
def line : Cells :=
  broadcastInDim S16x3x64x64 ![0, 1, 2, 3] bcast_S1x1x64x64_S16x3x64x64_0_1_2_3 (shapeCast _ (transpose S64x64 [1, 0] ramp transposes_S64x64_S64x64_1_0) shapeCasts_S64x64_S1x1x64x64)

theorem line_apply (b : Fin 16) (a : Fin 3) (y x : Fin 64) :
    line (ix4 b a y x) = FloatOps.sitofp (F := Ideal) .f32 (BitVec.ofNat 32 y.val) := by
  pointwise [line, ramp_apply]

/-- A column of the table of anchors, laid over the cells. -/
def anchors (k : Nat) (h : S3x3.Slices ![0, k] S3x1) : Cells :=
  broadcastInDim S16x3x64x64 ![0, 1, 2, 3] bcast_S1x3x1x1_S16x3x64x64_0_1_2_3 (shapeCast _ (extractStridedSlice S3x1 ![0, k] ((fun i => FloatOps.ofBits .f32 (lit0 (S3x3.rowMajor i)) : FVec Ideal S3x3 .f32)) h) shapeCasts_S3x1_S1x3x1x1)

/-- The angle in degrees, halved. -/
def theta (X : FVec Ideal S16x261x64x64 .f32) : Cells :=
  Host.divf (mulf (Host.divf (Host.atan2 (Host.tanh (chan 4 slices_S16x3x64x64x87_S16x3x64x64x1_0_0_0_0_4 X)) (Host.tanh (chan 5 slices_S16x3x64x64x87_S16x3x64x64x1_0_0_0_0_5 X))) (broadcastInDim S16x3x64x64 ![] bcast_S_S16x3x64x64 (Host.acos (constant S_ .f32 0xBF800000#32)))) (broadcastInDim S16x3x64x64 ![] bcast_S_S16x3x64x64 (constant S_ .f32 0x43340000#32))) (broadcastInDim S16x3x64x64 ![] bcast_S_S16x3x64x64 (constant S_ .f32 0x40000000#32))

/-- A trailing unit axis. -/
def unitLast (v : Cells) : FVec Ideal S16x3x64x64x1 .f32 :=
  broadcastInDim S16x3x64x64x1 ![0, 1, 2, 3] bcast_S16x3x64x64_S16x3x64x64x1_0_1_2_3 v

theorem unitLast_apply (v : Cells) (b : Fin 16) (a : Fin 3) (y x : Fin 64) (k : Fin 1) : unitLast v (ix5 b a y x k) = v (ix4 b a y x) := by
  pointwise [unitLast]

/-- The five numbers of each box. -/
def boxes (X : FVec Ideal S16x261x64x64 .f32) : FVec Ideal S16x3x64x64x5 .f32 :=
  concatenate S16x3x64x64x5 4
    [⟨S16x3x64x64x1, unitLast (addf (sigm (chan 0 slices_S16x3x64x64x87_S16x3x64x64x1_0_0_0_0_0 X)) column)⟩,
      ⟨S16x3x64x64x1, unitLast (addf (sigm (chan 1 slices_S16x3x64x64x87_S16x3x64x64x1_0_0_0_0_1 X)) line)⟩,
      ⟨S16x3x64x64x1, unitLast (mulf (Host.exp (chan 2 slices_S16x3x64x64x87_S16x3x64x64x1_0_0_0_0_2 X)) (anchors 0 slices_S3x3_S3x1_0_0))⟩,
      ⟨S16x3x64x64x1, unitLast (mulf (Host.exp (chan 3 slices_S16x3x64x64x87_S16x3x64x64x1_0_0_0_0_3 X)) (anchors 1 slices_S3x3_S3x1_0_1))⟩,
      ⟨S16x3x64x64x1, unitLast (theta X)⟩]
    concatenates_S16x3x64x64x1_S16x3x64x64x1_S16x3x64x64x1_S16x3x64x64x1_S16x3x64x64x1_S16x3x64x64x5_d4

/-- The first four numbers of each box in pixels. -/
def pixels (X : FVec Ideal S16x261x64x64 .f32) : FVec Ideal S16x12288x4 .f32 :=
  mulf (shapeCast _ (extractStridedSlice S16x3x64x64x4 ![0, 0, 0, 0, 0] (boxes X) slices_S16x3x64x64x5_S16x3x64x64x4_0_0_0_0_0) shapeCasts_S16x3x64x64x4_S16x12288x4)
    (broadcastInDim S16x12288x4 ![] bcast_S_S16x12288x4 (constant S_ .f32 0x41000000#32))

/-- The angle, one number a cell. -/
def angle (X : FVec Ideal S16x261x64x64 .f32) : FVec Ideal S16x12288x1 .f32 :=
  shapeCast _ (shapeCast _ (extractStridedSlice S16x3x64x64x1 ![0, 0, 0, 0, 4] (boxes X) slices_S16x3x64x64x5_S16x3x64x64x1_0_0_0_0_4) shapeCasts_S16x3x64x64x1_S16x3x64x64) shapeCasts_S16x3x64x64_S16x12288x1

/-- The confidence, one number a cell. -/
def conf (X : FVec Ideal S16x261x64x64 .f32) : FVec Ideal S16x12288x1 .f32 :=
  shapeCast _ (sigm (chan 6 slices_S16x3x64x64x87_S16x3x64x64x1_0_0_0_0_6 X)) shapeCasts_S16x3x64x64_S16x12288x1

/-- The class scores. -/
def classes (X : FVec Ideal S16x261x64x64 .f32) : FVec Ideal S16x12288x80 .f32 :=
  shapeCast _ (Host.divf (broadcastInDim S16x3x64x64x80 ![] bcast_S_S16x3x64x64x80 (constant S_ .f32 0x3F800000#32))
    (addf (broadcastInDim S16x3x64x64x80 ![] bcast_S_S16x3x64x64x80 (constant S_ .f32 0x3F800000#32))
      (Host.exp (Host.negf (extractStridedSlice S16x3x64x64x80 ![0, 0, 0, 0, 7] (moved X) slices_S16x3x64x64x87_S16x3x64x64x80_0_0_0_0_7)))))
    shapeCasts_S16x3x64x64x80_S16x12288x80

/-- The reference's result. -/
def decoded (X : FVec Ideal S16x261x64x64 .f32) : FVec Ideal S16x12288x86 .f32 :=
  concatenate S16x12288x86 2 [⟨S16x12288x4, pixels X⟩, ⟨S16x12288x1, angle X⟩, ⟨S16x12288x1, conf X⟩, ⟨S16x12288x80, classes X⟩]
    concatenates_S16x12288x4_S16x12288x1_S16x12288x1_S16x12288x80_S16x12288x86_d2

/-- The term that the reference's run ends with is `decoded` of the argument. -/
theorem refTerm_eq (m : (ℓ : Loc nD τ sig) → Buf (Elt Ideal) ℓ) (c : Dev nD) :
    Value.res_main_v93 (F := Ideal) m c = decoded (m ((c.tc : Thread nD τ).loc main_arg0)) := by
  unfold Value.res_main_v93
  rfl

end Cert.Decode.Ref
-- ==== Proof.Cell.lean ====
/-
  What both programs compute for one cell of one anchor, as a function of the cell's 87 channels over the extended
  reals, and the few scalar facts that both sides of the proof use.
-/
module

public import Idealize.ShloMosaic.Lib.Pointwise

@[expose] public section

noncomputable section

open Idealize.ShloMosaic

namespace Cert.Decode

/-- The width of each anchor in pixels. -/
def anchorW : Fin 3 → ℝ := ![116, 156, 373]

/-- The height of each anchor in pixels. -/
def anchorH : Fin 3 → ℝ := ![90, 198, 326]

/-- Row `r` of the decoded output for one cell: `ch` its channels, `a` its anchor, `x` its column and `y` its line. The
    first four rows are the box in pixels, the fifth is the angle in degrees, the others are logistic scores. -/
def cell (ch : Fin 87 → EReal) (a : Fin 3) (x y : Nat) (r : Fin 86) : EReal :=
  if r.val = 0 then (Ideal.logistic (ch 0) + ((x : ℝ) : EReal)) * ((8 : ℝ) : EReal)
  else if r.val = 1 then (Ideal.logistic (ch 1) + ((y : ℝ) : EReal)) * ((8 : ℝ) : EReal)
  else if r.val = 2 then Ideal.exp (ch 2) * ((anchorW a : ℝ) : EReal)
  else if r.val = 3 then Ideal.exp (ch 3) * ((anchorH a : ℝ) : EReal)
  else if r.val = 4 then Ideal.atan2 (Ideal.tanh (ch 4)) (Ideal.tanh (ch 5)) * ((90 * Real.pi⁻¹ : ℝ) : EReal)
  else Ideal.logistic (ch ⟨r.val + 1, by omega⟩)

section
variable (ch : Fin 87 → EReal) (a : Fin 3) (x y : Nat) (r : Fin 86)

/-- The centre's column. -/
theorem cell_x (h : r.val = 0) : cell ch a x y r = (Ideal.logistic (ch 0) + ((x : ℝ) : EReal)) * ((8 : ℝ) : EReal) := by
  unfold cell; rw [if_pos h]

/-- The centre's line. -/
theorem cell_y (h : r.val = 1) : cell ch a x y r = (Ideal.logistic (ch 1) + ((y : ℝ) : EReal)) * ((8 : ℝ) : EReal) := by
  unfold cell; rw [if_neg (by omega), if_pos h]

/-- The width. -/
theorem cell_w (h : r.val = 2) : cell ch a x y r = Ideal.exp (ch 2) * ((anchorW a : ℝ) : EReal) := by
  unfold cell; rw [if_neg (by omega), if_neg (by omega), if_pos h]

/-- The height. -/
theorem cell_h (h : r.val = 3) : cell ch a x y r = Ideal.exp (ch 3) * ((anchorH a : ℝ) : EReal) := by
  unfold cell; rw [if_neg (by omega), if_neg (by omega), if_neg (by omega), if_pos h]

/-- The angle. -/
theorem cell_angle (h : r.val = 4) :
    cell ch a x y r = Ideal.atan2 (Ideal.tanh (ch 4)) (Ideal.tanh (ch 5)) * ((90 * Real.pi⁻¹ : ℝ) : EReal) := by
  unfold cell; rw [if_neg (by omega), if_neg (by omega), if_neg (by omega), if_neg (by omega), if_pos h]

/-- The confidence and the class scores. -/
theorem cell_score (h : 5 ≤ r.val) : cell ch a x y r = Ideal.logistic (ch ⟨r.val + 1, by omega⟩) := by
  unfold cell; rw [if_neg (by omega), if_neg (by omega), if_neg (by omega), if_neg (by omega), if_neg (by omega)]

end

/-- Column `r` of row `n` of image `b` of the result, from the argument `X`: rows count the anchors, then the lines,
    then the columns. -/
def rowCell (X : Fin 16 → Fin 261 → Fin 64 → Fin 64 → EReal) (b : Fin 16) (n : Fin 12288) (r : Fin 86) : EReal :=
  cell (fun k : Fin 87 => X b ⟨n.val / 4096 * 87 + k.val, by omega⟩ ⟨n.val / 64 % 64, by omega⟩ ⟨n.val % 64, by omega⟩)
    ⟨n.val / 4096, by omega⟩ (n.val % 64) (n.val / 64 % 64) r

/-- A small natural number as a signed word is the real number itself. -/
theorem sitofp_ofNat (n : Nat) (h : n < 2 ^ 31) :
    FloatOps.sitofp (F := Ideal) .f32 (BitVec.ofNat 32 n) = (((n : ℝ)) : EReal) := by
  have e : (BitVec.ofNat 32 n).toInt = (n : Int) := by
    rw [BitVec.toInt_eq_toNat_cond, BitVec.toNat_ofNat, Nat.mod_eq_of_lt (by omega)]; exact if_pos (by omega)
  show (((BitVec.ofNat 32 n).toInt : ℝ) : EReal) = _
  rw [e]; simp

/-- The literal 8. -/
theorem bits_eight : Ideal.ofBits .f32 0x41000000#32 = ((8 : ℝ) : EReal) := by
  simp [Ideal.ofBits, Ideal.ieee, -EReal.coe_mul]; norm_num

end Cert.Decode
-- ==== Proof.RefCell.lean ====
/-
  The reference's result element by element over the extended reals: column `r` of row `n` is `cell` of the channels of
  the anchor and the cell that `n` counts.
-/
module

public import proofs.«01_k».proof.Proof.RefTerm
public import proofs.«01_k».proof.Proof.Cell

@[expose] public section

noncomputable section

open Idealize.ShloMosaic

namespace Cert.Decode.Ref
open Cert.ReferenceIdeal Cert.ReferenceIdeal.Gen

variable (X : FVec Ideal S16x261x64x64 .f32)

/-- A channel at a cell. -/
theorem chan_apply (k : Nat) (h : S16x3x64x64x87.Slices ![0, 0, 0, 0, k] S16x3x64x64x1) (hk : k < 87) (b : Fin 16) (a : Fin 3) (y x : Fin 64) :
    chan k h X (ix4 b a y x) = X (ix4 b ⟨a.val * 87 + k, by omega⟩ y x) := by
  pointwise [chan, moved_apply]

/-- The anchors' widths, in cells. -/
theorem widths_apply (b : Fin 16) (a : Fin 3) (y x : Fin 64) :
    anchors 0 slices_S3x3_S3x1_0_0 (ix4 b a y x) = ((anchorW a / 8 : ℝ) : EReal) := by
  pointwise [anchors]
  fin_cases a
  · change Ideal.ofBits .f32 0x41680000#32 = _
    simp [anchorW, Ideal.ofBits, Ideal.ieee, -EReal.coe_mul]; norm_num
  · change Ideal.ofBits .f32 0x419C0000#32 = _
    simp [anchorW, Ideal.ofBits, Ideal.ieee, -EReal.coe_mul]; norm_num
  · change Ideal.ofBits .f32 0x423A8000#32 = _
    simp [anchorW, Ideal.ofBits, Ideal.ieee, -EReal.coe_mul]; norm_num

/-- The anchors' heights, in cells. -/
theorem heights_apply (b : Fin 16) (a : Fin 3) (y x : Fin 64) :
    anchors 1 slices_S3x3_S3x1_0_1 (ix4 b a y x) = ((anchorH a / 8 : ℝ) : EReal) := by
  pointwise [anchors]
  fin_cases a
  · change Ideal.ofBits .f32 0x41340000#32 = _
    simp [anchorH, Ideal.ofBits, Ideal.ieee, -EReal.coe_mul]; norm_num
  · change Ideal.ofBits .f32 0x41C60000#32 = _
    simp [anchorH, Ideal.ofBits, Ideal.ieee, -EReal.coe_mul]; norm_num
  · change Ideal.ofBits .f32 0x42230000#32 = _
    simp [anchorH, Ideal.ofBits, Ideal.ieee, -EReal.coe_mul]; norm_num

/-- The arc cosine of -1 is π. -/
theorem acos_neg_one : Ideal.acos (Ideal.ofBits .f32 0xBF800000#32) = ((Real.pi : ℝ) : EReal) := by
  have e : Ideal.ofBits .f32 0xBF800000#32 = ((-1 : ℝ) : EReal) := by
    simp [Ideal.ofBits, Ideal.ieee, -EReal.coe_mul]; norm_num
  rw [e, Ideal.acos_coe, if_pos (by norm_num), Real.arccos_neg_one]

theorem bits_180 : Ideal.ofBits .f32 0x43340000#32 = ((180 : ℝ) : EReal) := by
  simp [Ideal.ofBits, Ideal.ieee, -EReal.coe_mul]; norm_num

theorem bits_two : Ideal.ofBits .f32 0x40000000#32 = ((2 : ℝ) : EReal) := by
  simp [Ideal.ofBits, Ideal.ieee, -EReal.coe_mul]; norm_num

/-- Dividing by π, multiplying by 180 and halving is one factor. -/
theorem degrees (t : EReal) :
    Ideal.div (Ideal.div t ((Real.pi : ℝ) : EReal) * ((180 : ℝ) : EReal)) ((2 : ℝ) : EReal) = t * ((90 * Real.pi⁻¹ : ℝ) : EReal) := by
  rw [Ideal.div_coe Real.pi_ne_zero, Ideal.div_coe (by norm_num), mul_assoc, mul_assoc, ← EReal.coe_mul, ← EReal.coe_mul]
  congr 2
  ring

/-- The angle at a cell. -/
theorem theta_apply (b : Fin 16) (a : Fin 3) (y x : Fin 64) :
    theta X (ix4 b a y x) = Ideal.atan2 (Ideal.tanh (X (ix4 b ⟨a.val * 87 + 4, by omega⟩ y x))) (Ideal.tanh (X (ix4 b ⟨a.val * 87 + 5, by omega⟩ y x))) * ((90 * Real.pi⁻¹ : ℝ) : EReal) := by
  pointwise [theta]
  rw [chan_apply X 4 _ (by decide), chan_apply X 5 _ (by decide), acos_neg_one, bits_180, bits_two, degrees]

/-- The first four columns of a row: the box's centre and size in pixels. -/
theorem pixels_apply (b : Fin 16) (n : Fin 12288) (r : Fin 4) :
    pixels X (ix3 b n r) = cell (fun k : Fin 87 => X (ix4 b ⟨n.val / 4096 * 87 + k.val, by omega⟩ ⟨n.val / 64 % 64, by omega⟩ ⟨n.val % 64, by omega⟩)) ⟨n.val / 4096, by omega⟩ (n.val % 64) (n.val / 64 % 64) ⟨r.val, by omega⟩ := by
  have scale (t : EReal) (w : ℝ) : t * ((w / 8 : ℝ) : EReal) * ((8 : ℝ) : EReal) = t * (w : EReal) := by
    rw [mul_assoc, ← EReal.coe_mul, div_mul_cancel₀ _ (by norm_num)]
  rcases (by omega : r.val = 0 ∨ r.val = 1 ∨ r.val = 2 ∨ r.val = 3) with q | q | q | q
  · rw [cell_x _ _ _ _ _ q]
    pointwise [pixels, boxes, unitLast_apply, sigm_apply, column_apply, line_apply, widths_apply, heights_apply, bits_eight]
    rw [dif_pos (by omega), chan_apply X 0 _ (by decide), sitofp_ofNat _ (by omega)]
    rfl
  · rw [cell_y _ _ _ _ _ q]
    pointwise [pixels, boxes, unitLast_apply, sigm_apply, column_apply, line_apply, widths_apply, heights_apply, bits_eight]
    rw [dif_neg (by omega), dif_pos (by omega), chan_apply X 1 _ (by decide), sitofp_ofNat _ (by omega)]
  · rw [cell_w _ _ _ _ _ q]
    pointwise [pixels, boxes, unitLast_apply, sigm_apply, column_apply, line_apply, widths_apply, heights_apply, bits_eight]
    rw [dif_neg (by omega), dif_neg (by omega), dif_pos (by omega), chan_apply X 2 _ (by decide), scale]
  · rw [cell_h _ _ _ _ _ q]
    pointwise [pixels, boxes, unitLast_apply, sigm_apply, column_apply, line_apply, widths_apply, heights_apply, bits_eight]
    rw [dif_neg (by omega), dif_neg (by omega), dif_neg (by omega), dif_pos (by omega), chan_apply X 3 _ (by decide), scale]

/-- The reference's result at an index. -/
theorem decoded_apply (b : Fin 16) (n : Fin 12288) (r : Fin 86) :
    decoded X (ix3 b n r) = rowCell (fun b k y x => X (ix4 b k y x)) b n r := by
  unfold rowCell
  rcases (by omega : r.val < 4 ∨ r.val = 4 ∨ r.val = 5 ∨ 6 ≤ r.val) with q | q | q | q
  · refine Eq.trans ?_ (pixels_apply X b n ⟨r.val, q⟩)
    pointwise [decoded]
    rw [dif_pos q]
  · rw [cell_angle _ _ _ _ _ q]
    pointwise [decoded]
    rw [dif_neg (by omega), dif_pos (by omega)]
    pointwise [angle, boxes, unitLast_apply]
    rw [theta_apply]
  · rw [cell_score _ _ _ _ _ (by omega)]
    pointwise [decoded]
    rw [dif_neg (by omega), dif_neg (by omega), dif_pos (by omega)]
    pointwise [conf, sigm_apply]
    rw [chan_apply X 6 _ (by decide)]
    exact congrArg (fun k => Ideal.logistic (X (ix4 b k _ _))) (Fin.ext (by simp only; omega))
  · rw [cell_score _ _ _ _ _ (by omega)]
    pointwise [decoded]
    rw [dif_neg (by omega), dif_neg (by omega), dif_neg (by omega)]
    pointwise [classes, moved_apply]
    exact congrArg (fun k => Ideal.logistic (X (ix4 b k _ _))) (Fin.ext (by simp only; omega))

end Cert.Decode.Ref
-- ==== Proof.Words.lean ====
/-
  The integer words of the kernel's body: the anchor and the block line of a grid point, the channel that each row of
  the first product picks, the column and the line of each cell, and the sum of a row of a matrix with one 1.
-/
module

public import proofs.«01_k».proof.Proof.Cell

@[expose] public section

noncomputable section

open Idealize.ShloMosaic

namespace Cert.Decode

/-- The quotient by eight rounded down, in the words that the kernel computes it with. -/
def floorDiv (w : BitVec 32) : BitVec 32 :=
  Scalar.select (Scalar.andi (Scalar.cmpi .ne (Scalar.subi (Scalar.extui (Scalar.cmpi .sgt w 0#32)) (Scalar.extui (Scalar.cmpi .slt w 0#32))) (Scalar.subi (Scalar.extui (Scalar.cmpi .sgt 8#32 0#32)) (Scalar.extui (Scalar.cmpi .slt 8#32 0#32)))) (Scalar.cmpi .ne (Scalar.remsi w 8#32) 0#32)) (Scalar.subi (Scalar.divsi w 8#32) 1#32) (Scalar.divsi w 8#32)

/-- At a grid point it is the point's anchor. -/
theorem floorDiv_eq (n : Fin 24) : floorDiv (BitVec.ofNat 32 n.val) = BitVec.ofNat 32 (n.val / 8) := by
  revert n; decide +kernel

/-- The channel, within its anchor, that row `r` of the first product picks: the angle's second channel is the last. -/
def pick (r : Fin 87) : Fin 87 :=
  if h : r.val < 5 then r else if h' : r.val < 86 then ⟨r.val + 1, by omega⟩ else 5

/-- The word that the kernel compares a channel's number with is the number of the channel picked. -/
theorem pick_word (n : Fin 24) (r : Fin 87) :
    IntOp.addi (Scalar.muli (floorDiv (BitVec.ofNat 32 n.val)) 87#32)
        (Scalar.select (IntOp.cmpi .slt (BitVec.ofNat 32 r.val) 5#32) (BitVec.ofNat 32 r.val)
          (Scalar.select (IntOp.cmpi .slt (BitVec.ofNat 32 r.val) 86#32) (IntOp.addi (BitVec.ofNat 32 r.val) 1#32)
            (Scalar.select (IntOp.cmpi .eq (BitVec.ofNat 32 r.val) 86#32) 5#32 4294967295#32)))
      = BitVec.ofNat 32 (87 * (n.val / 8) + (pick r).val) := by
  revert n r; decide +kernel

/-- The same for the product of the low parts, whose rows pick the first six channels in order. -/
theorem low_word (n : Fin 24) (r : Fin 6) :
    IntOp.addi (Scalar.muli (floorDiv (BitVec.ofNat 32 n.val)) 87#32) (BitVec.ofNat 32 r.val)
      = BitVec.ofNat 32 (87 * (n.val / 8) + r.val) := by
  revert n r; decide +kernel

/-- Two small numbers are compared as words by comparing them. -/
theorem eq_word (k j : Nat) (hk : k < 2 ^ 32) (hj : j < 2 ^ 32) :
    IntOp.cmpi .eq (BitVec.ofNat 32 k) (BitVec.ofNat 32 j) = if k = j then 1#1 else 0#1 := by
  unfold IntOp.cmpi
  by_cases h : k = j
  · subst h; simp
  · have : BitVec.ofNat 32 k ≠ BitVec.ofNat 32 j := by
      intro e
      have := congrArg BitVec.toNat e
      rw [BitVec.toNat_ofNat, BitVec.toNat_ofNat, Nat.mod_eq_of_lt hk, Nat.mod_eq_of_lt hj] at this
      exact h this
    rw [if_neg h]
    simp only [beq_eq_false_iff_ne.mpr this]
    rfl

/-- A sum whose weights are one flag's 1 and zeros is the term that the flag stands at. -/
theorem sum_flag {n : Nat} (p : Fin n → BitVec 1) (f : Fin n → EReal) (j : Fin n)
    (h : ∀ k, p k = if k.val = j.val then 1#1 else 0#1) :
    ∑ k, FloatOps.sitofp (F := Ideal) .f32 (BitVec.setWidth 32 (p k)) * f k = f j := by
  have e1 : FloatOps.sitofp (F := Ideal) .f32 (BitVec.setWidth 32 1#1) = (1 : EReal) := by
    have := sitofp_ofNat 1 (by omega); simpa using this
  have e0 : FloatOps.sitofp (F := Ideal) .f32 (BitVec.setWidth 32 0#1) = (0 : EReal) := by
    have := sitofp_ofNat 0 (by omega); simpa using this
  rw [Finset.sum_eq_single j]
  · rw [h j, if_pos rfl, e1, one_mul]
  · intro k _ hk
    rw [h k, if_neg (fun e => hk (Fin.ext e)), e0, zero_mul]
  · intro hj; exact absurd (Finset.mem_univ j) hj

end Cert.Decode
-- ==== Proof.KernelBlock.lean ====
/-
  What one grid point of the kernel computes, element by element over the extended reals: row `r` of the point's block
  of the output at a cell is `cell` of that cell's channels, wherever the first six channels are below +inf.
-/
module

public import proofs.«01_k».proof.Proof.Words
public import proofs.«01_k».proof.Proof.Gen.KernelIdeal.Frame
public import Idealize.ShloMosaic.Lib.Pipeline.Value

@[expose] public section

noncomputable section

open Idealize.ShloMosaic

namespace Cert.Decode
open Cert.KernelIdeal Cert.KernelIdeal.Gen

/-- Channel `k` of the cell at lane `l` of image `b`, of the anchor that point `i` works on, in the point's input block. -/
def blockChan (i : grid0.Coords) (x : Vec Ideal S16x8x64x261 .f32) (b : Fin 16) (l : Fin 512) (k : Fin 87) : EReal :=
  x (ix4 b ⟨l.val / 64, by omega⟩ ⟨l.val % 64, by omega⟩ ⟨87 * ((i 0).val / 8) + k.val, by have h : (i 0).val < 24 := (i 0).isLt; omega⟩)

/-- The first product picks channels. -/
theorem high_apply (i : grid0.Coords) (x : Vec Ideal S16x8x64x261 .f32) (r : Fin 88) (hr : r.val < 87) (b : Fin 16) (l : Fin 512) :
    k0_pay14 i x (ix3 r b l) = blockChan i x b l (pick ⟨r.val, hr⟩) := by
  have hi : (i 0).val < 24 := (i 0).isLt
  unfold k0_pay14
  change k0_pay7 _ (Scalar.muli (floorDiv _) _) _ _ _ _ _ = _
  pointwise [k0_pay7, k0_pay3, k0_pay2, k0_pay5, k0_pay6]
  refine sum_flag _ (fun k => x (ix4 b _ _ k)) ⟨87 * ((i 0).val / 8) + (pick ⟨r.val, hr⟩).val, by omega⟩ fun k => ?_
  have e := pick_word ⟨(i 0).val, hi⟩ ⟨r.val, hr⟩
  dsimp only at e
  rw [e]
  exact eq_word _ _ (by omega) (by omega)

/-- The second product picks the low parts, which are differences of a channel with itself. -/
theorem low_apply (i : grid0.Coords) (x : Vec Ideal S16x8x64x261 .f32) (r : Fin 8) (hr : r.val < 6) (b : Fin 16) (l : Fin 512) :
    k0_pay15 i x (ix3 r b l) = blockChan i x b l ⟨r.val, by omega⟩ - blockChan i x b l ⟨r.val, by omega⟩ := by
  have hi : (i 0).val < 24 := (i 0).isLt
  unfold k0_pay15
  change k0_pay8 _ (Scalar.muli (floorDiv _) _) _ = _
  pointwise [k0_pay8, k0_pay4, k0_pay3, k0_pay2]
  refine sum_flag _ (fun k : Fin 192 => x (ix4 b _ _ ⟨k.val, by omega⟩) - x (ix4 b _ _ ⟨k.val, by omega⟩)) ⟨87 * ((i 0).val / 8) + r.val, by omega⟩ fun k => ?_
  have e := low_word ⟨(i 0).val, hi⟩ ⟨r.val, hr⟩
  dsimp only at e
  rw [e, eq_word _ _ (by omega) (by omega)]
  have s : IntOp.cmpi .slt (BitVec.ofNat 32 r.val) 6#32 = 1#1 := by
    have : ∀ r : Fin 6, IntOp.cmpi .slt (BitVec.ofNat 32 r.val) 6#32 = 1#1 := by decide
    exact this ⟨r.val, hr⟩
  rw [s]
  split <;> rfl

/-- A number below +inf and its difference with itself add up to the number. -/
theorem add_low (t : EReal) (h : t ≠ ⊤) : t + (t - t) = t := by
  induction t with
  | bot => simp
  | coe r => rw [← EReal.coe_sub, sub_self, EReal.coe_zero, add_zero]
  | top => exact absurd rfl h

/-- The column of a cell. -/
theorem column_apply (b : Fin 16) (l : Fin 512) : k0_pay9 (F := Ideal) (ix2 b l) = (((l.val % 64 : Nat) : ℝ) : EReal) := by
  pointwise [k0_pay9]
  refine (congrArg _ ?_).trans (sitofp_ofNat (l.val % 64) (by omega))
  revert l; decide +kernel

/-- The line of a cell. -/
theorem line_apply (i : grid0.Coords) (b : Fin 16) (l : Fin 512) :
    k0_pay10 (F := Ideal) (iota .tc S16x512 32 [1] iota_S16x512_d1_w32) (Scalar.select (Scalar.cmpi .eq 8#32 0#32) 1#32 8#32) (Scalar.remsi (BitVec.ofNat 32 (i 0).val) (Scalar.select (Scalar.cmpi .eq 8#32 0#32) 1#32 8#32)) (Scalar.cmpi .ne (Scalar.remsi (BitVec.ofNat 32 (i 0).val) (Scalar.select (Scalar.cmpi .eq 8#32 0#32) 1#32 8#32)) 0#32) (Scalar.xori (Scalar.cmpi .slt (Scalar.remsi (BitVec.ofNat 32 (i 0).val) (Scalar.select (Scalar.cmpi .eq 8#32 0#32) 1#32 8#32)) 0#32) (Scalar.cmpi .slt (Scalar.select (Scalar.cmpi .eq 8#32 0#32) 1#32 8#32) 0#32)) (ix2 b l)
      = ((((i 0).val % 8 * 8 + l.val / 64 : Nat) : ℝ) : EReal) := by
  have hi : (i 0).val < 24 := (i 0).isLt
  pointwise [k0_pay10]
  generalize (i 0).val = n at hi ⊢
  refine (congrArg _ ?_).trans (sitofp_ofNat (n % 8 * 8 + l.val / 64) (by omega))
  refine (congrArg₂ IntOp.addi (x' := BitVec.ofNat 32 (n % 8 * 8)) (y' := BitVec.ofNat 32 (l.val / 64)) ?_ ?_).trans ?_
  · obtain ⟨k, rfl⟩ : ∃ k : Fin 24, n = k.val := ⟨⟨n, hi⟩, rfl⟩
    clear hi; revert k; decide +kernel
  · revert l; decide +kernel
  · exact (BitVec.ofNat_add (n % 8 * 8) (l.val / 64)).symm

/-- The width of the anchor. -/
theorem width_apply (n : Fin 24) (a : Fin 3) (h : a.val = n.val / 8) :
    k0_pay11 (F := Ideal) (floorDiv (BitVec.ofNat 32 n.val)) = ((anchorW a : ℝ) : EReal) := by
  rw [floorDiv_eq, ← h]
  unfold k0_pay11
  fin_cases a
  · simp [Scalar.select, Scalar.cmpi, IntOp.cmpi, anchorW, Ideal.ofBits, Ideal.ieee, -EReal.coe_mul]; norm_num
  · simp [Scalar.select, Scalar.cmpi, IntOp.cmpi, anchorW, Ideal.ofBits, Ideal.ieee, -EReal.coe_mul]; norm_num
  · simp [Scalar.select, Scalar.cmpi, IntOp.cmpi, anchorW, Ideal.ofBits, Ideal.ieee, -EReal.coe_mul]; norm_num

/-- The height of the anchor. -/
theorem height_apply (n : Fin 24) (a : Fin 3) (h : a.val = n.val / 8) :
    k0_pay12 (F := Ideal) (floorDiv (BitVec.ofNat 32 n.val)) = ((anchorH a : ℝ) : EReal) := by
  rw [floorDiv_eq, ← h]
  unfold k0_pay12
  fin_cases a
  · simp [Scalar.select, Scalar.cmpi, IntOp.cmpi, anchorH, Ideal.ofBits, Ideal.ieee, -EReal.coe_mul]; norm_num
  · simp [Scalar.select, Scalar.cmpi, IntOp.cmpi, anchorH, Ideal.ofBits, Ideal.ieee, -EReal.coe_mul]; norm_num
  · simp [Scalar.select, Scalar.cmpi, IntOp.cmpi, anchorH, Ideal.ofBits, Ideal.ieee, -EReal.coe_mul]; norm_num

/-- The named constant. -/
theorem deg_eq : Named.named (F := Ideal) (φ := .f32) κ "deg" 0x41E52EE1#32 = ((90 * Real.pi⁻¹ : ℝ) : EReal) :=
  IdealRules.named_const.ideal_named_scalar _ _ _ _ rfl

theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- One element of the block that a point writes. -/
theorem block_apply (i : grid0.Coords) (x : Vec Ideal S16x8x64x261 .f32) (a : Fin 3) (ha : a.val = (i 0).val / 8)
    (r : Fin 86) (b : Fin 16) (l : Fin 512) (hx : ∀ k : Fin 87, k.val < 6 → blockChan i x b l k ≠ ⊤) :
    out0_1 i x (ix3 r b l) = cell (blockChan i x b l) a (l.val % 64) ((i 0).val % 8 * 8 + l.val / 64) r := by
  have hi : (i 0).val < 24 := (i 0).isLt
  unfold out0_1
  rw [View.canon_unit_zero zeros3]
  change k0_pay1 _ _ _ _ (k0_pay11 (floorDiv (BitVec.ofNat 32 (⟨(i 0).val, hi⟩ : Fin 24).val))) (k0_pay12 (floorDiv (BitVec.ofNat 32 (⟨(i 0).val, hi⟩ : Fin 24).val))) _ _ = _
  rw [width_apply _ a ha, height_apply _ a ha]
  have hv : ∀ (k : Fin 87) (hk : k.val < 5), k0_pay14 i x (ix3 ⟨k.val, by omega⟩ b l) + k0_pay15 i x (ix3 ⟨k.val, by omega⟩ b l) = blockChan i x b l k := by
    intro k hk
    rw [high_apply i x ⟨k.val, by omega⟩ (show k.val < 87 by omega) b l, low_apply i x ⟨k.val, by omega⟩ (show k.val < 6 by omega) b l]
    have : pick ⟨k.val, by omega⟩ = k := by unfold pick; rw [dif_pos hk]
    rw [this]
    exact add_low _ (hx k (by omega))
  have h5 : k0_pay14 i x (ix3 86 b l) + k0_pay15 i x (ix3 5 b l) = blockChan i x b l 5 := by
    rw [high_apply i x 86 (by decide) b l, low_apply i x 5 (by decide) b l]
    exact add_low _ (hx 5 (by decide))
  have h0 := hv 0 (by decide); have h1 := hv 1 (by decide); have h2 := hv 2 (by decide)
  have h3 := hv 3 (by decide); have h4 := hv 4 (by decide)
  have hs : ∀ h : 5 ≤ r.val, k0_pay14 i x (ix3 ⟨5 + (r.val - 5), by omega⟩ b l) = blockChan i x b l ⟨r.val + 1, by omega⟩ := by
    intro h
    rw [high_apply i x ⟨5 + (r.val - 5), by omega⟩ (show 5 + (r.val - 5) < 87 by omega) b l]
    congr 1
    unfold pick
    apply Fin.ext
    simp only
    split
    · omega
    · split <;> simp <;> omega
  generalize k0_pay14 i x = v59 at *
  generalize k0_pay15 i x = v60 at *
  pointwise [k0_pay1, k0_pay13, column_apply, line_apply, deg_eq, bits_eight]
  rcases (by omega : r.val = 0 ∨ r.val = 1 ∨ r.val = 2 ∨ r.val = 3 ∨ r.val = 4 ∨ 5 ≤ r.val) with q | q | q | q | q | q
  · rw [cell_x _ _ _ _ _ q, dif_pos (by omega), dif_pos (by omega)]
    exact congrArg (fun t => (Ideal.logistic t + _) * _) h0
  · rw [cell_y _ _ _ _ _ q, dif_pos (by omega), dif_neg (by omega), dif_pos (by omega)]
    exact congrArg₂ (fun t u => (Ideal.logistic t + u) * _) h1 (line_apply i b l)
  · rw [cell_w _ _ _ _ _ q, dif_pos (by omega), dif_neg (by omega), dif_neg (by omega), dif_pos (by omega)]
    exact congrArg (fun t => Ideal.exp t * _) h2
  · rw [cell_h _ _ _ _ _ q, dif_pos (by omega), dif_neg (by omega), dif_neg (by omega), dif_neg (by omega), dif_pos (by omega)]
    exact congrArg (fun t => Ideal.exp t * _) h3
  · rw [cell_angle _ _ _ _ _ q, dif_pos (by omega), dif_neg (by omega), dif_neg (by omega), dif_neg (by omega), dif_neg (by omega)]
    exact congrArg₂ (fun t u => Ideal.atan2 (Ideal.tanh t) (Ideal.tanh u) * _) h4 h5
  · rw [cell_score _ _ _ _ _ q, dif_neg (by omega)]
    exact congrArg Ideal.logistic (hs q)

end Cert.Decode
-- ==== Proof.KernelArray.lean ====
/-
  The kernel's whole result over the extended reals: the array that the grid writes holds, at every index, the cell that
  its block's point computes, and the final transpose lays these out as rows.
-/
module

public import proofs.«01_k».proof.Proof.KernelBlock

@[expose] public section

noncomputable section

open Idealize.ShloMosaic Idealize.ShloMosaic.TcCoe Idealize.SL.Sem
open Idealize.ShloMosaic.Pipeline (Dat)

namespace Cert.Decode
open Cert.KernelIdeal Cert.KernelIdeal.Gen

variable (m : (ℓ : Loc nD τ sig) → Buf (Elt Ideal) ℓ) (c : Dev nD)

/-- The argument's elements. -/
def argAt (b : Fin 16) (k : Fin 261) (y x : Fin 64) : EReal :=
  (m ((c : Thread nD τ).loc main_arg0) : FVec Ideal S16x261x64x64 .f32) (ix4 b k y x)

/-- The array that the grid writes. -/
def written : FVec Ideal S86x16x12288 .f32 := fun i => rowCell (argAt m c) (i 1) (i 2) (i 0)

/-- Before the grid runs the argument has been transposed. -/
theorem staged_eq : (V m c main_v0 : FVec Ideal S16x64x64x261 .f32)
    = transpose S16x64x64x261 [0, 2, 3, 1] (m ((c : Thread nD τ).loc main_arg0) : FVec Ideal S16x261x64x64 .f32) transposes_S16x261x64x64_S16x64x64x261_0_2_3_1 := by
  show StableHlo.after (List.flatten [hostOps0]) _ (Proc.devRef .tc main_v0) = _
  simp only [hostOps0, List.flatten_cons, List.flatten_nil, List.append_nil]
  after_results

/-- It holds each channel of each cell. -/
theorem staged_apply (b : Fin 16) (y x : Fin 64) (k : Fin 261) :
    (V m c main_v0 : FVec Ideal S16x64x64x261 .f32) (ix4 b y x k) = argAt m c b k y x := by
  rw [staged_eq]
  unfold argAt
  pointwise []

/-- The grid's points in order. -/
theorem point_val : ∀ t : Fin cfg0.N, ((grid0.coords t) 0).val = t.val := by decide +kernel

/-- Where the input window stands. -/
theorem input_index : ∀ t : Fin cfg0.N, win0_0.index t 0 = 0 ∧ win0_0.index t 1 = t.val % 8 ∧ win0_0.index t 2 = 0 ∧ win0_0.index t 3 = 0 := by
  decide +kernel

/-- Where the output window stands. -/
theorem output_index : ∀ t : Fin cfg0.N, win0_1.index t 0 = 0 ∧ win0_1.index t 1 = 0 ∧ win0_1.index t 2 = t.val := by
  decide +kernel

/-- A point's input block reads eight lines of the transposed argument. -/
theorem input_apply (t : Fin cfg0.N) (b : Fin 16) (y : Fin 8) (x : Fin 64) (k : Fin 261) :
    (iblk m c 0 t : Vec Ideal S16x8x64x261 .f32) (ix4 b y x k)
      = argAt m c b k ⟨t.val % 8 * 8 + y.val, by omega⟩ x := by
  rw [← staged_apply]
  obtain ⟨e0, e1, e2, e3⟩ := input_index t
  refine congrArg (V m c main_v0 : FVec Ideal S16x64x64x261 .f32) (funext fun a => Fin.ext ?_)
  match a with
  | ⟨0, _⟩ => show win0_0.index t 0 * 16 + 1 * b.val = b.val; omega
  | ⟨1, _⟩ => show win0_0.index t 1 * 8 + 1 * y.val = t.val % 8 * 8 + y.val; omega
  | ⟨2, _⟩ => show win0_0.index t 2 * 64 + 1 * x.val = x.val; omega
  | ⟨3, _⟩ => show win0_0.index t 3 * 261 + 1 * k.val = k.val; omega

/-- The input block's channels are the argument's. -/
theorem blockChan_eq (t : Fin cfg0.N) (b : Fin 16) (l : Fin 512) (n : Fin 12288) (hn : n.val = t.val * 512 + l.val) :
    blockChan (grid0.coords t) (iblk m c 0 t) b l
      = fun k : Fin 87 => argAt m c b ⟨n.val / 4096 * 87 + k.val, by omega⟩ ⟨n.val / 64 % 64, by omega⟩ ⟨n.val % 64, by omega⟩ := by
  funext k
  have hp := point_val t
  have e := input_apply m c t b ⟨l.val / 64, by omega⟩ ⟨l.val % 64, by omega⟩
  unfold blockChan
  rw [e]
  congr 1
  · apply Fin.ext; simp only; omega
  · apply Fin.ext; simp only; omega
  · apply Fin.ext; simp only; omega

/-- The channels of the boxes are below +inf. -/
def BoxesBelow : Prop :=
  ∀ (b : Fin 16) (a : Fin 3) (k : Fin 87) (y x : Fin 64), k.val < 6 → argAt m c b ⟨a.val * 87 + k.val, by omega⟩ y x ≠ ⊤

/-- What a point writes back is its block of `written`. -/
theorem flushed_eq (h : BoxesBelow m c) (t : Fin cfg0.N) :
    (dats m 0 c).flushed 1 t = (win0_1.blk t).view.read (Elt Ideal) (written m c) := by
  show (cfg0.win 1).cut (grid0.coords t) ((dats m 0 c).after 1 t) = _
  rw [after0_1]
  funext j
  obtain ⟨r, b, l, rfl⟩ : ∃ (r : Fin 86) (b : Fin 16) (l : Fin 512), j = (ix3 r b l : S86x16x512.Idx) :=
    ⟨j 0, j 1, j 2, funext fun a => match a with | ⟨0, _⟩ => rfl | ⟨1, _⟩ => rfl | ⟨2, _⟩ => rfl⟩
  show out0_1 (grid0.coords t) (iblk m c 0 t) (ix3 r b l) = _
  have ht : t.val < 24 := N_0 ▸ t.isLt
  have hp := point_val t
  have hn : t.val * 512 + l.val < 12288 := by omega
  have hc := blockChan_eq m c t b l ⟨_, hn⟩ rfl
  rw [block_apply (grid0.coords t) (iblk m c 0 t) ⟨(t.val * 512 + l.val) / 4096, by omega⟩ (by rw [hp]; simp only; omega) r b l
    (fun k hk => by rw [hc]; exact h b ⟨(t.val * 512 + l.val) / 4096, by omega⟩ k _ _ hk), hc]
  obtain ⟨e0, e1, e2⟩ := output_index t
  have ei : (win0_1.blk t).view.emb (ix3 r b l : S86x16x512.Idx) = (ix3 r b ⟨_, hn⟩ : S86x16x12288.Idx) := by
    refine funext fun a => Fin.ext ?_
    match a with
    | ⟨0, _⟩ => show win0_1.index t 0 * 86 + 1 * r.val = r.val; omega
    | ⟨1, _⟩ => show win0_1.index t 1 * 16 + 1 * b.val = b.val; omega
    | ⟨2, _⟩ => show win0_1.index t 2 * 512 + 1 * l.val = t.val * 512 + l.val; omega
  show _ = written m c ((win0_1.blk t).view.emb (ix3 r b l : S86x16x512.Idx))
  rw [ei]
  show _ = rowCell (argAt m c) b ⟨t.val * 512 + l.val, hn⟩ r
  unfold rowCell
  congr 1
  · simp only; omega
  · rw [hp]; simp only; omega

/-- The blocks of the output array are runs of 512 columns. -/
theorem mem_block (t : Fin cfg0.N) (i : S86x16x12288.Idx) :
    i ∈ ((cfg0.win 1).blk t).view.set ↔ t.val * 512 ≤ (i 2).val ∧ (i 2).val < t.val * 512 + 512 := by
  show i ∈ ((View.whole main_v1).slice (win0_1.rect t)).set ↔ _
  rw [View.set_slice_whole, Rect.mem_set_unit]
  have l0 : (i 0).val < 86 := (i 0).isLt
  have l1 : (i 1).val < 16 := (i 1).isLt
  obtain ⟨e0, e1, e2⟩ := output_index t
  have b0 : (win0_1.index t 0 * 86 ≤ (i 0).val ∧ (i 0).val < win0_1.index t 0 * 86 + 86) := by omega
  have b1 : (win0_1.index t 1 * 16 ≤ (i 1).val ∧ (i 1).val < win0_1.index t 1 * 16 + 16) := by omega
  constructor
  · intro h
    have b2 : win0_1.index t 2 * 512 ≤ (i 2).val ∧ (i 2).val < win0_1.index t 2 * 512 + 512 := h 2
    omega
  · intro h a
    match a with
    | ⟨0, _⟩ => exact b0
    | ⟨1, _⟩ => exact b1
    | ⟨2, _⟩ => show win0_1.index t 2 * 512 ≤ (i 2).val ∧ (i 2).val < win0_1.index t 2 * 512 + 512; omega

/-- Every column is in the block of some point. -/
theorem covered (i : S86x16x12288.Idx) :
    ∃ t : Fin cfg0.N, (cfg0.win 1).flush t = true ∧ i ∈ ((cfg0.win 1).blk t).view.set := by
  have l2 : (i 2).val < 12288 := (i 2).isLt
  have hN : cfg0.N = 24 := N_0
  refine ⟨⟨(i 2).val / 512, by omega⟩, flush0_1 _, ?_⟩
  rw [mem_block]
  dsimp only
  omega

/-- So the array ends as `written`. -/
theorem array_eq (h : BoxesBelow m c) : (dats m 0 c).arrAt 1 cfg0.N = written m c :=
  (dats m 0 c).arrAt_eq_of_cover 1 (written m c) (fun t _ => flushed_eq m c h t) covered

/-- The transpose after the grid. -/
theorem tail_eq : (Pipeline.afterTail₀ cfgs (dats m) 0 (V0 m) [hostOps1] c main_v2 : FVec Ideal S16x12288x86 .f32)
    = transpose S16x12288x86 [1, 2, 0] ((dats m 0 c).arrAt 1 cfg0.N : FVec Ideal S86x16x12288 .f32) transposes_S86x16x12288_S16x12288x86_1_2_0 := by
  unfold Pipeline.afterTail₀
  simp only [hostOps1, List.flatten_cons, List.flatten_nil, List.append_nil]
  after_results
  refine congrArg (fun v : FVec Ideal S86x16x12288 .f32 => transpose S16x12288x86 [1, 2, 0] v transposes_S86x16x12288_S16x12288x86_1_2_0) ?_
  exact Pipeline.withArrays_arr spec0 (by decide) c (V0 m c) (fun w => (dats m 0 c).arrAt w (cfgs 0).N) 1

/-- The kernel's result at an index. -/
theorem result_apply (h : BoxesBelow m c) (b : Fin 16) (n : Fin 12288) (r : Fin 86) :
    (Pipeline.afterTail₀ cfgs (dats m) 0 (V0 m) [hostOps1] c main_v2 : FVec Ideal S16x12288x86 .f32) (ix3 b n r)
      = rowCell (argAt m c) b n r := by
  rw [tail_eq, array_eq m c h]
  pointwise []
  rfl

end Cert.Decode
-- ==== Proof.lean ====
/-
  The proof of `Cert.Claim`: the frames of the kernel, of its idealization and of the reference, the one rewrite of the
  idealization, and the equality of the two idealized results wherever the boxes' channels are below +inf.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Boxes
public import proofs.«01_k».proof.Proof.RefCell
public import proofs.«01_k».proof.Proof.KernelArray
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem Cert.Decode

attribute [local instance] boxFacts

/-- The kernel as printed runs, leaves its argument and ends with every semaphore at zero. -/
theorem kernel_frame : Cert.quiescent_Kernel := fun m g _ => Cert.Kernel.Gen.frame m g

/-- So does its idealization. -/
theorem ideal_frame : Cert.quiescent_KernelIdeal := fun m g _ => Cert.KernelIdeal.Gen.frame m g

/-- So does the reference, which has no semaphore. -/
theorem reference_frame : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run (F := Ideal) m g)

/-- The idealization names one constant: the literal 28.6478901 as 90/π. -/
theorem named : Cert.preserves_Kernel_KernelIdeal :=
  IdealRules.named_const.statement Cert.KernelIdeal.κ "deg" .f32 0x41E52EE1#32 _ rfl

/-- The result array that both programs end with. -/
def rows (m : (ℓ : Loc Cert.KernelIdeal.nD Cert.KernelIdeal.τ Cert.KernelIdeal.sig) → Buf (Elt Ideal) ℓ) (c : Dev Cert.KernelIdeal.nD) :
    FVec Ideal Cert.KernelIdeal.S16x12288x86 .f32 :=
  fun i => rowCell (argAt m c) (i 0) (i 1) (i 2)

/-- The kernel's run ends with it. -/
theorem kernel_run (m : (ℓ : Loc Cert.KernelIdeal.nD Cert.KernelIdeal.τ Cert.KernelIdeal.sig) → Buf (Elt Ideal) ℓ)
    (g : Dev Cert.KernelIdeal.nD → PrngReg) (h : ∀ c, BoxesBelow m c) :
    θ_run (Cert.KernelIdeal.defs (F := Ideal)) (onTc (τ := Cert.KernelIdeal.τ) (Cert.KernelIdeal.main (F := Ideal))) ⟨m, fun _ => 0, g⟩ fun r =>
      ∀ c : Dev Cert.KernelIdeal.nD,
        r.2.mem ((c.tc : Thread Cert.KernelIdeal.nD Cert.KernelIdeal.τ).loc Cert.KernelIdeal.main_v2) = rows m c
        ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0) := by
  refine (θ_run Cert.KernelIdeal.defs _ _).mono (fun r e c => ⟨?_, ?_⟩) (Cert.KernelIdeal.Gen.run_main m g)
  · refine ((e c).2 Cert.KernelIdeal.main_v2 (Pipeline.mem_restRefs_of Cert.KernelIdeal.main_v2 (by decide) (by decide))).trans ?_
    refine funext fun (i : Cert.KernelIdeal.S16x12288x86.Idx) => ?_
    obtain ⟨b, n, k, rfl⟩ : ∃ (b : Fin 16) (n : Fin 12288) (k : Fin 86), i = ix3 b n k :=
      ⟨i 0, i 1, i 2, funext fun a => match a with | ⟨0, _⟩ => rfl | ⟨1, _⟩ => rfl | ⟨2, _⟩ => rfl⟩
    exact result_apply m c (h c) b n k
  · exact ((e c).2 Cert.KernelIdeal.main_arg0 (Pipeline.mem_restRefs_of Cert.KernelIdeal.main_arg0 (by decide) (by decide))).trans
      (Cert.KernelIdeal.Gen.W_main_arg0 m (Cert.KernelIdeal.Gen.dats m) c)

/-- The kernel and the reference end with the same rows. -/
theorem same_rows : Cert.algebraic_KernelIdeal_ReferenceIdeal_pre_box_below_inf := by
  intro m g m' g' hpre hagree
  refine ⟨rows m, kernel_run m g fun c b a k y x hk => below_of_ones _ (hpre c) b a k y x hk, ?_⟩
  refine (θ_run Cert.ReferenceIdeal.defs _ _).mono (fun r e c => ⟨(e c).1.trans ?_, (e c).2⟩)
    (Cert.ReferenceIdeal.Value.run (F := Ideal) m' g')
  rw [Cert.Decode.Ref.refTerm_eq, hagree c]
  refine funext fun (i : Cert.ReferenceIdeal.S16x12288x86.Idx) => ?_
  obtain ⟨b, n, k, rfl⟩ : ∃ (b : Fin 16) (n : Fin 12288) (k : Fin 86), i = ix3 b n k :=
    ⟨i 0, i 1, i 2, funext fun a => match a with | ⟨0, _⟩ => rfl | ⟨1, _⟩ => rfl | ⟨2, _⟩ => rfl⟩
  exact Cert.Decode.Ref.decoded_apply _ b n k

/-- Every claim. -/
theorem claim : Cert.Claim :=
  ⟨Cert.Kernel.Gen.facts, Cert.KernelIdeal.Gen.facts, Cert.ReferenceIdeal.Gen.facts, boxFacts,
    kernel_frame, ideal_frame, fun m g _ => ideal_frame m g trivial, reference_frame,
    fun m g _ => reference_frame m g trivial, named, same_rows⟩

end Cert.Proof

end
